-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x128x1024 : Shape := ⟨3, ![12, 128, 1024]⟩
abbrev S512x4096 : Shape := ⟨2, ![512, 4096]⟩
abbrev S16x4096 : Shape := ⟨2, ![16, 4096]⟩
abbrev S1024x16 : Shape := ⟨2, ![1024, 16]⟩
abbrev S2x8x128 : Shape := ⟨3, ![2, 8, 128]⟩
abbrev S1536x1024 : Shape := ⟨2, ![1536, 1024]⟩
abbrev S1536x4096 : Shape := ⟨2, ![1536, 4096]⟩
abbrev S512x512 : Shape := ⟨2, ![512, 512]⟩
abbrev S16x512 : Shape := ⟨2, ![16, 512]⟩
abbrev S1536x512 : Shape := ⟨2, ![1536, 512]⟩
abbrev S1536x16 : Shape := ⟨2, ![1536, 16]⟩
abbrev S1024x512 : Shape := ⟨2, ![1024, 512]⟩
abbrev S1x8x128 : Shape := ⟨3, ![1, 8, 128]⟩
abbrev S8x128 : Shape := ⟨2, ![8, 128]⟩
abbrev S1x128 : Shape := ⟨2, ![1, 128]⟩
abbrev S32x128 : Shape := ⟨2, ![32, 128]⟩
abbrev S8x128x1 : Shape := ⟨3, ![8, 128, 1]⟩
abbrev S16x128 : Shape := ⟨2, ![16, 128]⟩
abbrev S12x128x4096 : Shape := ⟨3, ![12, 128, 4096]⟩

abbrev nBuf : Space → Nat
  | .hbm => 9
  | .vmem => 13
  | .smem => 0
  | _ => 0

abbrev bufTy : (tb : Table) → Fin (tcTables nBuf tb) → BufTy
  | .hbm, ⟨0, _⟩ => ⟨S12x128x1024, .bf16⟩
  | .hbm, ⟨1, _⟩ => ⟨S512x4096, .i8⟩
  | .hbm, ⟨2, _⟩ => ⟨S16x4096, .f32⟩
  | .hbm, ⟨3, _⟩ => ⟨S1024x16, .bf16⟩
  | .hbm, ⟨4, _⟩ => ⟨S16x4096, .bf16⟩
  | .hbm, ⟨5, _⟩ => ⟨S2x8x128, .i32⟩
  | .hbm, ⟨6, _⟩ => ⟨S1536x1024, .bf16⟩
  | .hbm, ⟨7, _⟩ => ⟨S1536x4096, .bf16⟩
  | .hbm, ⟨8, _⟩ => ⟨S12x128x4096, .bf16⟩
  | .local _ .vmem, ⟨0, _⟩ => ⟨S2x8x128, .i32⟩
  | .local _ .vmem, ⟨1, _⟩ => ⟨S1536x1024, .bf16⟩
  | .local _ .vmem, ⟨2, _⟩ => ⟨S512x512, .i8⟩
  | .local _ .vmem, ⟨3, _⟩ => ⟨S512x512, .i8⟩
  | .local _ .vmem, ⟨4, _⟩ => ⟨S16x512, .f32⟩
  | .local _ .vmem, ⟨5, _⟩ => ⟨S16x512, .f32⟩
  | .local _ .vmem, ⟨6, _⟩ => ⟨S1024x16, .bf16⟩
  | .local _ .vmem, ⟨7, _⟩ => ⟨S16x512, .bf16⟩
  | .local _ .vmem, ⟨8, _⟩ => ⟨S16x512, .bf16⟩
  | .local _ .vmem, ⟨9, _⟩ => ⟨S1536x512, .bf16⟩
  | .local _ .vmem, ⟨10, _⟩ => ⟨S1536x512, .bf16⟩
  | .local _ .vmem, ⟨11, _⟩ => ⟨S1536x16, .bf16⟩
  | .local _ .vmem, ⟨12, _⟩ => ⟨S1024x512, .bf16⟩
  | _, _ => ⟨S12x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2x8x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x16 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1536x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S12x128x1024 : Shape := ⟨3, ![12, 128, 1024]⟩
abbrev S512x4096 : Shape := ⟨2, ![512, 4096]⟩
abbrev S16x4096 : Shape := ⟨2, ![16, 4096]⟩
abbrev S1024x16 : Shape := ⟨2, ![1024, 16]⟩
abbrev S_ : Shape := ⟨0, ![]⟩
abbrev S1x512x4096 : Shape := ⟨3, ![1, 512, 4096]⟩
abbrev S2x512x4096 : Shape := ⟨3, ![2, 512, 4096]⟩
abbrev S2x16x32x4096 : Shape := ⟨4, ![2, 16, 32, 4096]⟩
abbrev S1x16x1x4096 : Shape := ⟨4, ![1, 16, 1, 4096]⟩
abbrev S1536x1024 : Shape := ⟨2, ![1536, 1024]⟩
abbrev S1536x512x2 : Shape := ⟨3, ![1536, 512, 2]⟩
abbrev S1536x2x512 : Shape := ⟨3, ![1536, 2, 512]⟩
abbrev S1536x4096 : Shape := ⟨2, ![1536, 4096]⟩
abbrev S1536x16 : Shape := ⟨2, ![1536, 16]⟩
abbrev S12x128x4096 : Shape := ⟨3, ![12, 128, 4096]⟩

abbrev nBuf : Space → Nat
  | .hbm => 216
  | .vmem => 0
  | .smem => 0
  | _ => 0

abbrev hbmTy0_0 (i : Nat) : BufTy := match i % 128 with
  | 0 => ⟨S12x128x1024, .bf16⟩
  | 1 => ⟨S512x4096, .i8⟩
  | 2 => ⟨S16x4096, .f32⟩
  | 3 => ⟨S1024x16, .bf16⟩
  | 4 => ⟨S16x4096, .bf16⟩
  | 5 => ⟨S512x4096, .i32⟩
  | 6 => ⟨S_, .i32⟩
  | 7 => ⟨S512x4096, .i32⟩
  | 8 => ⟨S512x4096, .i32⟩
  | 9 => ⟨S_, .i32⟩
  | 10 => ⟨S512x4096, .i32⟩
  | 11 => ⟨S512x4096, .i32⟩
  | 12 => ⟨S1x512x4096, .i32⟩
  | 13 => ⟨S1x512x4096, .i32⟩
  | 14 => ⟨S2x512x4096, .i32⟩
  | 15 => ⟨S2x16x32x4096, .i32⟩
  | 16 => ⟨S16x4096, .bf16⟩
  | 17 => ⟨S1x16x1x4096, .bf16⟩
  | 18 => ⟨S_, .i32⟩
  | 19 => ⟨S2x16x32x4096, .i32⟩
  | 20 => ⟨S2x16x32x4096, .i32⟩
  | 21 => ⟨S_, .i32⟩
  | 22 => ⟨S2x16x32x4096, .i32⟩
  | 23 => ⟨S2x16x32x4096, .i32⟩
  | 24 => ⟨S_, .i32⟩
  | 25 => ⟨S2x16x32x4096, .i32⟩
  | 26 => ⟨S2x16x32x4096, .i1⟩
  | 27 => ⟨S_, .bf16⟩
  | 28 => ⟨S_, .bf16⟩
  | 29 => ⟨S2x16x32x4096, .bf16⟩
  | 30 => ⟨S2x16x32x4096, .bf16⟩
  | 31 => ⟨S2x16x32x4096, .bf16⟩
  | 32 => ⟨S_, .i32⟩
  | 33 => ⟨S2x16x32x4096, .i32⟩
  | 34 => ⟨S2x16x32x4096, .i32⟩
  | 35 => ⟨S_, .i32⟩
  | 36 => ⟨S2x16x32x4096, .i32⟩
  | 37 => ⟨S2x16x32x4096, .i32⟩
  | 38 => ⟨S_, .i32⟩
  | 39 => ⟨S2x16x32x4096, .i32⟩
  | 40 => ⟨S2x16x32x4096, .i1⟩
  | 41 => ⟨S_, .bf16⟩
  | 42 => ⟨S_, .bf16⟩
  | 43 => ⟨S2x16x32x4096, .bf16⟩
  | 44 => ⟨S2x16x32x4096, .bf16⟩
  | 45 => ⟨S2x16x32x4096, .bf16⟩
  | 46 => ⟨S_, .i32⟩
  | 47 => ⟨S2x16x32x4096, .i32⟩
  | 48 => ⟨S2x16x32x4096, .i32⟩
  | 49 => ⟨S_, .i32⟩
  | 50 => ⟨S2x16x32x4096, .i32⟩
  | 51 => ⟨S2x16x32x4096, .i32⟩
  | 52 => ⟨S_, .i32⟩
  | 53 => ⟨S2x16x32x4096, .i32⟩
  | 54 => ⟨S2x16x32x4096, .i1⟩
  | 55 => ⟨S2x16x32x4096, .bf16⟩
  | 56 => ⟨S_, .i32⟩
  | 57 => ⟨S2x16x32x4096, .i32⟩
  | 58 => ⟨S2x16x32x4096, .i32⟩
  | 59 => ⟨S_, .i32⟩
  | 60 => ⟨S2x16x32x4096, .i32⟩
  | 61 => ⟨S2x16x32x4096, .i32⟩
  | 62 => ⟨S_, .i32⟩
  | 63 => ⟨S2x16x32x4096, .i32⟩
  | 64 => ⟨S2x16x32x4096, .i1⟩
  | 65 => ⟨S_, .bf16⟩
  | 66 => ⟨S_, .bf16⟩
  | 67 => ⟨S2x16x32x4096, .bf16⟩
  | 68 => ⟨S2x16x32x4096, .bf16⟩
  | 69 => ⟨S2x16x32x4096, .bf16⟩
  | 70 => ⟨S_, .i32⟩
  | 71 => ⟨S2x16x32x4096, .i32⟩
  | 72 => ⟨S2x16x32x4096, .i32⟩
  | 73 => ⟨S_, .i32⟩
  | 74 => ⟨S2x16x32x4096, .i32⟩
  | 75 => ⟨S2x16x32x4096, .i32⟩
  | 76 => ⟨S_, .i32⟩
  | 77 => ⟨S2x16x32x4096, .i32⟩
  | 78 => ⟨S2x16x32x4096, .i1⟩
  | 79 => ⟨S_, .bf16⟩
  | 80 => ⟨S_, .bf16⟩
  | 81 => ⟨S2x16x32x4096, .bf16⟩
  | 82 => ⟨S2x16x32x4096, .bf16⟩
  | 83 => ⟨S2x16x32x4096, .bf16⟩
  | 84 => ⟨S_, .i32⟩
  | 85 => ⟨S2x16x32x4096, .i32⟩
  | 86 => ⟨S2x16x32x4096, .i32⟩
  | 87 => ⟨S_, .i32⟩
  | 88 => ⟨S2x16x32x4096, .i32⟩
  | 89 => ⟨S2x16x32x4096, .i32⟩
  | 90 => ⟨S_, .i32⟩
  | 91 => ⟨S2x16x32x4096, .i32⟩
  | 92 => ⟨S2x16x32x4096, .i1⟩
  | 93 => ⟨S2x16x32x4096, .bf16⟩
  | 94 => ⟨S_, .i32⟩
  | 95 => ⟨S2x16x32x4096, .i32⟩
  | 96 => ⟨S2x16x32x4096, .i32⟩
  | 97 => ⟨S_, .i32⟩
  | 98 => ⟨S2x16x32x4096, .i32⟩
  | 99 => ⟨S2x16x32x4096, .i32⟩
  | 100 => ⟨S_, .i32⟩
  | 101 => ⟨S2x16x32x4096, .i32⟩
  | 102 => ⟨S2x16x32x4096, .i1⟩
  | 103 => ⟨S2x16x32x4096, .bf16⟩
  | 104 => ⟨S_, .i32⟩
  | 105 => ⟨S2x16x32x4096, .i32⟩
  | 106 => ⟨S2x16x32x4096, .i32⟩
  | 107 => ⟨S_, .i32⟩
  | 108 => ⟨S2x16x32x4096, .i32⟩
  | 109 => ⟨S2x16x32x4096, .i32⟩
  | 110 => ⟨S_, .i32⟩
  | 111 => ⟨S2x16x32x4096, .i32⟩
  | 112 => ⟨S2x16x32x4096, .i1⟩
  | 113 => ⟨S_, .bf16⟩
  | 114 => ⟨S_, .bf16⟩
  | 115 => ⟨S2x16x32x4096, .bf16⟩
  | 116 => ⟨S2x16x32x4096, .bf16⟩
  | 117 => ⟨S2x16x32x4096, .bf16⟩
  | 118 => ⟨S_, .i32⟩
  | 119 => ⟨S2x16x32x4096, .i32⟩
  | 120 => ⟨S2x16x32x4096, .i32⟩
  | 121 => ⟨S_, .i32⟩
  | 122 => ⟨S2x16x32x4096, .i32⟩
  | 123 => ⟨S2x16x32x4096, .i32⟩
  | 124 => ⟨S_, .i32⟩
  | 125 => ⟨S2x16x32x4096, .i32⟩
  | 126 => ⟨S2x16x32x4096, .i1⟩
  | 127 => ⟨S_, .bf16⟩
  | _ => ⟨S12x128x1024, .bf16⟩

abbrev hbmTy0_1 (i : Nat) : BufTy := match i % 128 with
  | 0 => ⟨S_, .bf16⟩
  | 1 => ⟨S2x16x32x4096, .bf16⟩
  | 2 => ⟨S2x16x32x4096, .bf16⟩
  | 3 => ⟨S2x16x32x4096, .bf16⟩
  | 4 => ⟨S_, .i32⟩
  | 5 => ⟨S2x16x32x4096, .i32⟩
  | 6 => ⟨S2x16x32x4096, .i32⟩
  | 7 => ⟨S_, .i32⟩
  | 8 => ⟨S2x16x32x4096, .i32⟩
  | 9 => ⟨S2x16x32x4096, .i32⟩
  | 10 => ⟨S_, .i32⟩
  | 11 => ⟨S2x16x32x4096, .i32⟩
  | 12 => ⟨S2x16x32x4096, .i1⟩
  | 13 => ⟨S2x16x32x4096, .bf16⟩
  | 14 => ⟨S_, .i32⟩
  | 15 => ⟨S2x16x32x4096, .i32⟩
  | 16 => ⟨S2x16x32x4096, .i32⟩
  | 17 => ⟨S_, .i32⟩
  | 18 => ⟨S2x16x32x4096, .i32⟩
  | 19 => ⟨S2x16x32x4096, .i32⟩
  | 20 => ⟨S_, .i32⟩
  | 21 => ⟨S2x16x32x4096, .i32⟩
  | 22 => ⟨S2x16x32x4096, .i1⟩
  | 23 => ⟨S_, .bf16⟩
  | 24 => ⟨S_, .bf16⟩
  | 25 => ⟨S2x16x32x4096, .bf16⟩
  | 26 => ⟨S2x16x32x4096, .bf16⟩
  | 27 => ⟨S2x16x32x4096, .bf16⟩
  | 28 => ⟨S_, .i32⟩
  | 29 => ⟨S2x16x32x4096, .i32⟩
  | 30 => ⟨S2x16x32x4096, .i32⟩
  | 31 => ⟨S_, .i32⟩
  | 32 => ⟨S2x16x32x4096, .i32⟩
  | 33 => ⟨S2x16x32x4096, .i32⟩
  | 34 => ⟨S_, .i32⟩
  | 35 => ⟨S2x16x32x4096, .i32⟩
  | 36 => ⟨S2x16x32x4096, .i1⟩
  | 37 => ⟨S_, .bf16⟩
  | 38 => ⟨S_, .bf16⟩
  | 39 => ⟨S2x16x32x4096, .bf16⟩
  | 40 => ⟨S2x16x32x4096, .bf16⟩
  | 41 => ⟨S2x16x32x4096, .bf16⟩
  | 42 => ⟨S_, .i32⟩
  | 43 => ⟨S2x16x32x4096, .i32⟩
  | 44 => ⟨S2x16x32x4096, .i32⟩
  | 45 => ⟨S_, .i32⟩
  | 46 => ⟨S2x16x32x4096, .i32⟩
  | 47 => ⟨S2x16x32x4096, .i32⟩
  | 48 => ⟨S_, .i32⟩
  | 49 => ⟨S2x16x32x4096, .i32⟩
  | 50 => ⟨S2x16x32x4096, .i1⟩
  | 51 => ⟨S2x16x32x4096, .bf16⟩
  | 52 => ⟨S_, .i32⟩
  | 53 => ⟨S2x16x32x4096, .i32⟩
  | 54 => ⟨S2x16x32x4096, .i32⟩
  | 55 => ⟨S_, .i32⟩
  | 56 => ⟨S2x16x32x4096, .i32⟩
  | 57 => ⟨S2x16x32x4096, .i32⟩
  | 58 => ⟨S_, .i32⟩
  | 59 => ⟨S2x16x32x4096, .i32⟩
  | 60 => ⟨S2x16x32x4096, .i1⟩
  | 61 => ⟨S2x16x32x4096, .bf16⟩
  | 62 => ⟨S_, .i32⟩
  | 63 => ⟨S2x16x32x4096, .i32⟩
  | 64 => ⟨S2x16x32x4096, .i32⟩
  | 65 => ⟨S_, .i32⟩
  | 66 => ⟨S2x16x32x4096, .i32⟩
  | 67 => ⟨S2x16x32x4096, .i32⟩
  | 68 => ⟨S_, .i32⟩
  | 69 => ⟨S2x16x32x4096, .i32⟩
  | 70 => ⟨S2x16x32x4096, .i1⟩
  | 71 => ⟨S2x16x32x4096, .bf16⟩
  | 72 => ⟨S2x16x32x4096, .bf16⟩
  | 73 => ⟨S2x16x32x4096, .bf16⟩
  | 74 => ⟨S2x512x4096, .bf16⟩
  | 75 => ⟨S1536x1024, .bf16⟩
  | 76 => ⟨S1536x512x2, .bf16⟩
  | 77 => ⟨S1536x2x512, .bf16⟩
  | 78 => ⟨S1536x4096, .f32⟩
  | 79 => ⟨S1536x16, .f32⟩
  | 80 => ⟨S1536x16, .bf16⟩
  | 81 => ⟨S1536x4096, .f32⟩
  | 82 => ⟨S_, .f32⟩
  | 83 => ⟨S1536x4096, .f32⟩
  | 84 => ⟨S1536x4096, .f32⟩
  | 85 => ⟨S1536x4096, .f32⟩
  | 86 => ⟨S1536x4096, .bf16⟩
  | 87 => ⟨S12x128x4096, .bf16⟩
  | _ => ⟨S12x128x1024, .bf16⟩

abbrev hbmTy (i : Nat) : BufTy := match i / 128 with
  | 0 => hbmTy0_0 i
  | 1 => hbmTy0_1 i
  | _ => ⟨S12x128x1024, .bf16⟩

abbrev bufTy : (tb : Table) → Fin (tcTables nBuf tb) → BufTy
  | .hbm, ⟨i, _⟩ => hbmTy i
  | _, _ => ⟨S12x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c_5 : Ref sig .tc := ⟨.hbm, 32, rfl⟩
abbrev main_v18 : Ref sig .tc := ⟨.hbm, 33, rfl⟩
abbrev main_v19 : Ref sig .tc := ⟨.hbm, 34, rfl⟩
abbrev main_c_6 : Ref sig .tc := ⟨.hbm, 35, rfl⟩
abbrev main_v20 : Ref sig .tc := ⟨.hbm, 36, rfl⟩
abbrev main_v21 : Ref sig .tc := ⟨.hbm, 37, rfl⟩
abbrev main_c_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_cst_9 : Ref sig .tc := ⟨.hbm, 42, rfl⟩
abbrev main_call1_v0 : Ref sig .tc := ⟨.hbm, 43, rfl⟩
abbrev main_call1_v1 : Ref sig .tc := ⟨.hbm, 44, rfl⟩
abbrev main_v24 : Ref sig .tc := ⟨.hbm, 45, rfl⟩
abbrev main_c_10 : Ref sig .tc := ⟨.hbm, 46, rfl⟩
abbrev main_v25 : Ref sig .tc := ⟨.hbm, 47, rfl⟩
abbrev main_v26 : Ref sig .tc := ⟨.hbm, 48, rfl⟩
abbrev main_c_11 : Ref sig .tc := ⟨.hbm, 49, rfl⟩
abbrev main_v27 : Ref sig .tc := ⟨.hbm, 50, rfl⟩
abbrev main_v28 : Ref sig .tc := ⟨.hbm, 51, rfl⟩
abbrev main_c_12 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_13 : Ref sig .tc := ⟨.hbm, 56, rfl⟩
abbrev main_v32 : Ref sig .tc := ⟨.hbm, 57, rfl⟩
abbrev main_v33 : Ref sig .tc := ⟨.hbm, 58, rfl⟩
abbrev main_c_14 : Ref sig .tc := ⟨.hbm, 59, rfl⟩
abbrev main_v34 : Ref sig .tc := ⟨.hbm, 60, rfl⟩
abbrev main_v35 : Ref sig .tc := ⟨.hbm, 61, rfl⟩
abbrev main_c_15 : Ref sig .tc := ⟨.hbm, 62, rfl⟩
abbrev main_v36 : Ref sig .tc := ⟨.hbm, 63, rfl⟩
abbrev main_v37 : Ref sig .tc := ⟨.hbm, 64, rfl⟩
abbrev main_cst_16 : Ref sig .tc := ⟨.hbm, 65, rfl⟩
abbrev main_cst_17 : Ref sig .tc := ⟨.hbm, 66, rfl⟩
abbrev main_call3_v0 : Ref sig .tc := ⟨.hbm, 67, rfl⟩
abbrev main_call3_v1 : Ref sig .tc := ⟨.hbm, 68, rfl⟩
abbrev main_v38 : Ref sig .tc := ⟨.hbm, 69, rfl⟩
abbrev main_c_18 : Ref sig .tc := ⟨.hbm, 70, rfl⟩
abbrev main_v39 : Ref sig .tc := ⟨.hbm, 71, rfl⟩
abbrev main_v40 : Ref sig .tc := ⟨.hbm, 72, rfl⟩
abbrev main_c_19 : Ref sig .tc := ⟨.hbm, 73, rfl⟩
abbrev main_v41 : Ref sig .tc := ⟨.hbm, 74, rfl⟩
abbrev main_v42 : Ref sig .tc := ⟨.hbm, 75, rfl⟩
abbrev main_c_20 : Ref sig .tc := ⟨.hbm, 76, rfl⟩
abbrev main_v43 : Ref sig .tc := ⟨.hbm, 77, rfl⟩
abbrev main_v44 : Ref sig .tc := ⟨.hbm, 78, rfl⟩
abbrev main_cst_21 : Ref sig .tc := ⟨.hbm, 79, rfl⟩
abbrev main_cst_22 : Ref sig .tc := ⟨.hbm, 80, rfl⟩
abbrev main_call4_v0 : Ref sig .tc := ⟨.hbm, 81, rfl⟩
abbrev main_call4_v1 : Ref sig .tc := ⟨.hbm, 82, rfl⟩
abbrev main_v45 : Ref sig .tc := ⟨.hbm, 83, rfl⟩
abbrev main_c_23 : Ref sig .tc := ⟨.hbm, 84, rfl⟩
abbrev main_v46 : Ref sig .tc := ⟨.hbm, 85, rfl⟩
abbrev main_v47 : Ref sig .tc := ⟨.hbm, 86, rfl⟩
abbrev main_c_24 : Ref sig .tc := ⟨.hbm, 87, rfl⟩
abbrev main_v48 : Ref sig .tc := ⟨.hbm, 88, rfl⟩
abbrev main_v49 : Ref sig .tc := ⟨.hbm, 89, rfl⟩
abbrev main_c_25 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_c_26 : Ref sig .tc := ⟨.hbm, 94, rfl⟩
abbrev main_v53 : Ref sig .tc := ⟨.hbm, 95, rfl⟩
abbrev main_v54 : Ref sig .tc := ⟨.hbm, 96, rfl⟩
abbrev main_c_27 : Ref sig .tc := ⟨.hbm, 97, rfl⟩
abbrev main_v55 : Ref sig .tc := ⟨.hbm, 98, rfl⟩
abbrev main_v56 : Ref sig .tc := ⟨.hbm, 99, rfl⟩
abbrev main_c_28 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_c_29 : Ref sig .tc := ⟨.hbm, 104, rfl⟩
abbrev main_v60 : Ref sig .tc := ⟨.hbm, 105, rfl⟩
abbrev main_v61 : Ref sig .tc := ⟨.hbm, 106, rfl⟩
abbrev main_c_30 : Ref sig .tc := ⟨.hbm, 107, rfl⟩
abbrev main_v62 : Ref sig .tc := ⟨.hbm, 108, rfl⟩
abbrev main_v63 : Ref sig .tc := ⟨.hbm, 109, rfl⟩
abbrev main_c_31 : Ref sig .tc := ⟨.hbm, 110, rfl⟩
abbrev main_v64 : Ref sig .tc := ⟨.hbm, 111, rfl⟩
abbrev main_v65 : Ref sig .tc := ⟨.hbm, 112, rfl⟩
abbrev main_cst_32 : Ref sig .tc := ⟨.hbm, 113, rfl⟩
abbrev main_cst_33 : Ref sig .tc := ⟨.hbm, 114, rfl⟩
abbrev main_call7_v0 : Ref sig .tc := ⟨.hbm, 115, rfl⟩
abbrev main_call7_v1 : Ref sig .tc := ⟨.hbm, 116, rfl⟩
abbrev main_v66 : Ref sig .tc := ⟨.hbm, 117, rfl⟩
abbrev main_c_34 : Ref sig .tc := ⟨.hbm, 118, rfl⟩
abbrev main_v67 : Ref sig .tc := ⟨.hbm, 119, rfl⟩
abbrev main_v68 : Ref sig .tc := ⟨.hbm, 120, rfl⟩
abbrev main_c_35 : Ref sig .tc := ⟨.hbm, 121, rfl⟩
abbrev main_v69 : Ref sig .tc := ⟨.hbm, 122, rfl⟩
abbrev main_v70 : Ref sig .tc := ⟨.hbm, 123, rfl⟩
abbrev main_c_36 : Ref sig .tc := ⟨.hbm, 124, rfl⟩
abbrev main_v71 : Ref sig .tc := ⟨.hbm, 125, rfl⟩
abbrev main_v72 : Ref sig .tc := ⟨.hbm, 126, rfl⟩
abbrev main_cst_37 : Ref sig .tc := ⟨.hbm, 127, rfl⟩
abbrev main_cst_38 : Ref sig .tc := ⟨.hbm, 128, rfl⟩
abbrev main_call8_v0 : Ref sig .tc := ⟨.hbm, 129, rfl⟩
abbrev main_call8_v1 : Ref sig .tc := ⟨.hbm, 130, rfl⟩
abbrev main_v73 : Ref sig .tc := ⟨.hbm, 131, rfl⟩
abbrev main_c_39 : Ref sig .tc := ⟨.hbm, 132, rfl⟩
abbrev main_v74 : Ref sig .tc := ⟨.hbm, 133, rfl⟩
abbrev main_v75 : Ref sig .tc := ⟨.hbm, 134, rfl⟩
abbrev main_c_40 : Ref sig .tc := ⟨.hbm, 135, rfl⟩
abbrev main_v76 : Ref sig .tc := ⟨.hbm, 136, rfl⟩
abbrev main_v77 : Ref sig .tc := ⟨.hbm, 137, rfl⟩
abbrev main_c_41 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_c_42 : Ref sig .tc := ⟨.hbm, 142, rfl⟩
abbrev main_v81 : Ref sig .tc := ⟨.hbm, 143, rfl⟩
abbrev main_v82 : Ref sig .tc := ⟨.hbm, 144, rfl⟩
abbrev main_c_43 : Ref sig .tc := ⟨.hbm, 145, rfl⟩
abbrev main_v83 : Ref sig .tc := ⟨.hbm, 146, rfl⟩
abbrev main_v84 : Ref sig .tc := ⟨.hbm, 147, rfl⟩
abbrev main_c_44 : Ref sig .tc := ⟨.hbm, 148, rfl⟩
abbrev main_v85 : Ref sig .tc := ⟨.hbm, 149, rfl⟩
abbrev main_v86 : Ref sig .tc := ⟨.hbm, 150, rfl⟩
abbrev main_cst_45 : Ref sig .tc := ⟨.hbm, 151, rfl⟩
abbrev main_cst_46 : Ref sig .tc := ⟨.hbm, 152, rfl⟩
abbrev main_call10_v0 : Ref sig .tc := ⟨.hbm, 153, rfl⟩
abbrev main_call10_v1 : Ref sig .tc := ⟨.hbm, 154, rfl⟩
abbrev main_v87 : Ref sig .tc := ⟨.hbm, 155, rfl⟩
abbrev main_c_47 : Ref sig .tc := ⟨.hbm, 156, rfl⟩
abbrev main_v88 : Ref sig .tc := ⟨.hbm, 157, rfl⟩
abbrev main_v89 : Ref sig .tc := ⟨.hbm, 158, rfl⟩
abbrev main_c_48 : Ref sig .tc := ⟨.hbm, 159, rfl⟩
abbrev main_v90 : Ref sig .tc := ⟨.hbm, 160, rfl⟩
abbrev main_v91 : Ref sig .tc := ⟨.hbm, 161, rfl⟩
abbrev main_c_49 : Ref sig .tc := ⟨.hbm, 162, rfl⟩
abbrev main_v92 : Ref sig .tc := ⟨.hbm, 163, rfl⟩
abbrev main_v93 : Ref sig .tc := ⟨.hbm, 164, rfl⟩
abbrev main_cst_50 : Ref sig .tc := ⟨.hbm, 165, rfl⟩
abbrev main_cst_51 : Ref sig .tc := ⟨.hbm, 166, rfl⟩
abbrev main_call11_v0 : Ref sig .tc := ⟨.hbm, 167, rfl⟩
abbrev main_call11_v1 : Ref sig .tc := ⟨.hbm, 168, rfl⟩
abbrev main_v94 : Ref sig .tc := ⟨.hbm, 169, rfl⟩
abbrev main_c_52 : Ref sig .tc := ⟨.hbm, 170, rfl⟩
abbrev main_v95 : Ref sig .tc := ⟨.hbm, 171, rfl⟩
abbrev main_v96 : Ref sig .tc := ⟨.hbm, 172, rfl⟩
abbrev main_c_53 : Ref sig .tc := ⟨.hbm, 173, rfl⟩
abbrev main_v97 : Ref sig .tc := ⟨.hbm, 174, rfl⟩
abbrev main_v98 : Ref sig .tc := ⟨.hbm, 175, rfl⟩
abbrev main_c_54 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_c_55 : Ref sig .tc := ⟨.hbm, 180, rfl⟩
abbrev main_v102 : Ref sig .tc := ⟨.hbm, 181, rfl⟩
abbrev main_v103 : Ref sig .tc := ⟨.hbm, 182, rfl⟩
abbrev main_c_56 : Ref sig .tc := ⟨.hbm, 183, rfl⟩
abbrev main_v104 : Ref sig .tc := ⟨.hbm, 184, rfl⟩
abbrev main_v105 : Ref sig .tc := ⟨.hbm, 185, rfl⟩
abbrev main_c_57 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev main_c_58 : Ref sig .tc := ⟨.hbm, 190, rfl⟩
abbrev main_v109 : Ref sig .tc := ⟨.hbm, 191, rfl⟩
abbrev main_v110 : Ref sig .tc := ⟨.hbm, 192, rfl⟩
abbrev main_c_59 : Ref sig .tc := ⟨.hbm, 193, rfl⟩
abbrev main_v111 : Ref sig .tc := ⟨.hbm, 194, rfl⟩
abbrev main_v112 : Ref sig .tc := ⟨.hbm, 195, rfl⟩
abbrev main_c_60 : Ref sig .tc := ⟨.hbm, 196, rfl⟩
abbrev main_v113 : Ref sig .tc := ⟨.hbm, 197, rfl⟩
abbrev main_v114 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_v125 : Ref sig .tc := ⟨.hbm, 209, rfl⟩
abbrev main_cst_61 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩

abbrev nD : Nat := 1
abbrev τ : Topo := Topo.v7x

variable {F : FTy → Type} [FloatOps F]
-- ==== Proof.Tiles.lean ====
module
public import proofs.«01_k».proof.Proof.Gen.KernelIdeal.Frame
@[expose] public section

/-!
# The weight scratch of one grid point as 256 tiles

At every grid point the kernel fills its weight scratch [1024, 512] with 256 tiles of [16, 128], stored one after the other.
This module writes the tile number `n` once (`tile`, `piece`), and shows that the list of pieces that the run leaves is the
list of these tiles, newest first.
-/

set_option maxRecDepth 16384

noncomputable section
namespace Cert.Tiles
open Cert.KernelIdeal Cert.KernelIdeal.Gen
open Idealize.ShloMosaic Idealize.ShloMosaic.TcCoe Idealize.ShloMosaic.Tactic
open Idealize.SL Idealize.SL.RA Idealize.SL.BI Idealize.SL.Sem

variable {F : FTy → Type} [FloatOps F]

/-- Rows `8 i .. 8 i + 8` of a block of 32 rows lie in it. -/
theorem slices (i : ℕ) (hi : i < 4) : S32x128.Slices ![8 * i, 0] S8x128 := by
  refine ⟨rfl, fun a => ?_⟩
  match a with
  | ⟨0, _⟩ => show 8 * i + 8 ≤ 32; omega
  | ⟨1, _⟩ => show 0 + 128 ≤ 128; omega

/-- The position of a code among the 128 lanes of its table: the low seven bits of the code, with the wrap of a negative
    position (never taken). -/
def tileIdx (b : IVec S8x128 32) : IVec S8x128 32 :=
  shapeCast S8x128 (shapeCast S8x128x1
    (select (cmpi .slt (andi b (broadcast S8x128 127#32)) (broadcast S8x128 0#32))
      (addi (andi b (broadcast S8x128 127#32)) (broadcast S8x128 128#32)) (andi b (broadcast S8x128 127#32)))
    shapeCasts_S8x128_S8x128x1) shapeCasts_S8x128x1_S8x128

/-- The word of each code: the second table's where the code is 128 or more, else the first's. -/
def tileWord (t0 t1 : Vec F S1x8x128 .i32) (b : IVec S8x128 32) : IVec S8x128 32 :=
  select (cmpi .sge b (broadcast S8x128 128#32))
    (dynamicGather 1 (shapeCast S8x128 t1 shapeCasts_S1x8x128_S8x128) (tileIdx b))
    (dynamicGather 1 (shapeCast S8x128 t0 shapeCasts_S1x8x128_S8x128) (tileIdx b))

/-- A tile of weights from the two tables, the scales of its row block and its rows' codes: each word read as two
    bfloat16 numbers, one above the other, times the column's scale. -/
def tile (t0 t1 : Vec F S1x8x128 .i32) (s : Vec F S1x128 .f32) (w : Vec F S32x128 .i8) (i : ℕ) (hi : i < 4) : FVec F S16x128 .bf16 :=
  shapeCast S16x128 (mulf (bitcastToFloat .bf16 (bitcast S16x128 16
      (tileWord t0 t1 (extractStridedSlice S8x128 ![8 * i, 0] (extui 32 w natLt_8_32) (slices i hi)))
      bitcasts_S8x128_w32_S16x128_w16))
    (broadcastTo S16x128 (truncf .bf16 s bitsLt_bf16_f32) broadcasts_S1x128_S16x128)) shapeCasts_S16x128_S16x128

/-- Tile `n` lies in the scratch. -/
theorem inbTile (n : ℕ) (hn : n < 256) (a : Fin 2) : (![n % 64 * 16, n / 64 * 128] : Fin 2 → ℕ) a + S16x128.size a ≤ S1024x512.size a := by
  match a with
  | ⟨0, _⟩ => show n % 64 * 16 + 16 ≤ 1024; omega
  | ⟨1, _⟩ => show n / 64 * 128 + 128 ≤ 512; omega

/-- The scales of tile `n` lie in the block of scales. -/
theorem inbScale (n : ℕ) (hn : n < 256) (a : Fin 2) : (![n / 4 % 16, n / 64 * 128] : Fin 2 → ℕ) a + S1x128.size a ≤ S16x512.size a := by
  match a with
  | ⟨0, _⟩ => show n / 4 % 16 + 1 ≤ 16; omega
  | ⟨1, _⟩ => show n / 64 * 128 + 128 ≤ 512; omega

/-- The codes of tile `n` lie in the block of codes. -/
theorem inbCode (n : ℕ) (hn : n < 256) (a : Fin 2) : (![n / 4 % 16 * 32, n / 64 * 128] : Fin 2 → ℕ) a + S32x128.size a ≤ S512x512.size a := by
  match a with
  | ⟨0, _⟩ => show n / 4 % 16 * 32 + 32 ≤ 512; omega
  | ⟨1, _⟩ => show n / 64 * 128 + 128 ≤ 512; omega

/-- The place of tile `n` in the scratch. -/
def place (n : ℕ) (hn : n < 256) : Rect S1024x512 := Rect.unit ![n % 64 * 16, n / 64 * 128] S16x128.size (inbTile n hn)

section
variable (arg1 : Memref sig .tc .vmem S2x8x128 .i32) (harg1 : arg1.IsWhole) (arg3 : Memref sig .tc .vmem S512x512 .i8) (harg3 : arg3.IsWhole)
    (arg4 : Memref sig .tc .vmem S16x512 .f32) (harg4 : arg4.IsWhole) (x0 : Vec F S2x8x128 .i32) (x2 : Vec F S512x512 .i8) (x3 : Vec F S16x512 .f32)
    (n : ℕ) (hn : n < 256)

/-- The weights of tile `n`. -/
def weights : Vec F S16x128 .bf16 :=
  tile (View.readAt (Elt F) arg1.view (Rect.unit (s := S2x8x128) ![0, 0, 0] S1x8x128.size inb_S2x8x128_S1x8x128_0_0_0).toLoadRect (harg1.unread x0))
    (View.readAt (Elt F) arg1.view (Rect.unit (s := S2x8x128) ![1, 0, 0] S1x8x128.size inb_S2x8x128_S1x8x128_1_0_0).toLoadRect (harg1.unread x0))
    (View.readAt (Elt F) arg4.view (Rect.unit (s := S16x512) ![n / 4 % 16, n / 64 * 128] S1x128.size (inbScale n hn)).toLoadRect (harg4.unread x3))
    (View.readAt (Elt F) arg3.view (Rect.unit (s := S512x512) ![n / 4 % 16 * 32, n / 64 * 128] S32x128.size (inbCode n hn)).toLoadRect (harg3.unread x2))
    (n % 4) (Nat.mod_lt _ (by decide))

/-- Tile `n` as a piece of the scratch. -/
def piece : View.Piece (Elt F) S1024x512 .bf16 := ⟨place n hn, weights arg1 harg1 arg3 harg3 arg4 harg4 x0 x2 x3 n hn⟩
end

/-- The first `k` items of a sequence given below 256, newest first. -/
def newestFirst {α : Type} (p : (n : ℕ) → n < 256 → α) : (k : ℕ) → k ≤ 256 → List α
  | 0, _ => []
  | k + 1, h => p k h :: newestFirst p k (Nat.le_of_succ_le h)

/-- The members of a newest-first list are its listed pieces. -/
theorem mem_newestFirst {α : Type} (p : (n : ℕ) → n < 256 → α) (x : α) :
    ∀ (k : ℕ) (hk : k ≤ 256), x ∈ newestFirst p k hk ↔ ∃ (n : ℕ) (hn : n < 256), n < k ∧ x = p n hn
  | 0, _ => by simp [newestFirst]
  | k + 1, h => by
    rw [newestFirst, List.mem_cons, mem_newestFirst p x k]
    constructor
    · rintro (rfl | ⟨n, hn, hlt, rfl⟩)
      · exact ⟨k, h, Nat.lt_succ_self k, rfl⟩
      · exact ⟨n, hn, Nat.lt_succ_of_lt hlt, rfl⟩
    · rintro ⟨n, hn, hlt, rfl⟩
      rcases Nat.lt_succ_iff_lt_or_eq.mp hlt with hlt | rfl
      · exact Or.inr ⟨n, hn, hlt, rfl⟩
      · exact Or.inl rfl

attribute [irreducible] newestFirst

section
variable (c : Dev nD) (arg1 : Memref sig .tc .vmem S2x8x128 .i32) (harg1 : arg1.IsWhole) (arg3 : Memref sig .tc .vmem S512x512 .i8) (harg3 : arg3.IsWhole)
    (arg4 : Memref sig .tc .vmem S16x512 .f32) (harg4 : arg4.IsWhole) (x0 : Vec F S2x8x128 .i32) (x2 : Vec F S512x512 .i8) (x3 : Vec F S16x512 .f32)

/-- The pieces that a later grid point's run leaves in the scratch are the 256 tiles. -/
theorem piecesB : kernelRun0_B.sl.HS1_256 c arg1 harg1 arg3 harg3 arg4 harg4 x0 x2 x3
    = newestFirst (piece arg1 harg1 arg3 harg3 arg4 harg4 x0 x2 x3) 256 (Nat.le_refl _) := by
  sl_kernel_rfl

/-- The first grid point's likewise. -/
theorem piecesA : kernelRun0_A.sl.HS1_256 c arg1 harg1 arg3 harg3 arg4 harg4 x0 x2 x3
    = newestFirst (piece arg1 harg1 arg3 harg3 arg4 harg4 x0 x2 x3) 256 (Nat.le_refl _) := by
  sl_kernel_rfl

end
end Cert.Tiles
-- ==== Proof.TileValue.lean ====
module
public import proofs.«01_k».proof.Proof.Tiles
public import Idealize.ShloMosaic.Lib.BitcastPair
public import Idealize.ShloMosaic.Lib.Pipeline.ValueKit
@[expose] public section

/-!
# A weight of the scratch, at an index

The weight at row `K` and column `n` of the scratch is read off the code at row `K / 2`: half `K % 2` of the code's word,
times the scale of row block `K / 64`.
-/

set_option maxRecDepth 16384

noncomputable section
namespace Cert.Tiles
open Cert.KernelIdeal Cert.KernelIdeal.Gen
open Idealize.ShloMosaic Idealize.ShloMosaic.TcCoe Idealize.ShloMosaic.Tactic
open Idealize.SL Idealize.SL.RA Idealize.SL.BI Idealize.SL.Sem

variable {F : FTy → Type} [FloatOps F]

/-- The position of a code, as the kernel computes it, is its remainder by 128. -/
theorem idx_of_code (b : BitVec 8) :
    (Scalar.select (IntOp.cmpi CmpIPredicate.slt (IntOp.andi (b.setWidth 32) 127#32) 0#32)
      (IntOp.addi (IntOp.andi (b.setWidth 32) 127#32) 128#32) (IntOp.andi (b.setWidth 32) 127#32)).toNat % 128 = b.toNat % 128 := by
  have h : ∀ b : BitVec 8, (Scalar.select (IntOp.cmpi CmpIPredicate.slt (IntOp.andi (b.setWidth 32) 127#32) 0#32)
      (IntOp.addi (IntOp.andi (b.setWidth 32) 127#32) 128#32) (IntOp.andi (b.setWidth 32) 127#32)).toNat % 128 = b.toNat % 128 := by
    decide +kernel
  exact h b

/-- A code of 128 or more takes the second table. -/
theorem ge_of_code (b : BitVec 8) :
    IntOp.cmpi CmpIPredicate.sge (b.setWidth 32) 128#32 = if b.toNat / 128 = 1 then 1#1 else 0#1 := by
  have h : ∀ b : BitVec 8, IntOp.cmpi CmpIPredicate.sge (b.setWidth 32) 128#32 = if b.toNat / 128 = 1 then 1#1 else 0#1 := by
    decide +kernel
  exact h b

/-- The table of a code: the quotient by 128. -/
def hiOf (b : BitVec 8) : Fin 2 := ⟨b.toNat / 128, by have := b.isLt; omega⟩

/-- The lane of a code in its table: the remainder by 128. -/
def loOf (b : BitVec 8) : Fin 128 := ⟨b.toNat % 128, Nat.mod_lt _ (by decide)⟩

/-- The position in a tile, as the kernel computes it from a code, is the remainder of the code by 128. -/
theorem tileIdx_apply (b : IVec S8x128 32) (x : BitVec 8) (j : S8x128.Idx) (hb : b j = x.setWidth 32) :
    (tileIdx b j).toNat % 128 = x.toNat % 128 := by
  rw [← idx_of_code x, ← hb]
  unfold tileIdx
  idx_vars j
  pointwise

/-- The word of a code is the entry at its lane of the code's table, in the code's own row. -/
theorem tileWord_apply (t0 t1 : Vec F S1x8x128 .i32) (b : IVec S8x128 32) (x : BitVec 8) (j0 : Fin 8) (j1 : Fin 128)
    (hb : b (ix2 j0 j1) = x.setWidth 32) :
    tileWord t0 t1 b (ix2 j0 j1) = if x.toNat / 128 = 1 then t1 (ix3 0 j0 (loOf x)) else t0 (ix3 0 j0 (loOf x)) := by
  have e : (⟨(tileIdx b (ix2 j0 j1)).toNat % 128, Nat.mod_lt _ (by decide)⟩ : Fin 128) = loOf x :=
    Fin.ext (tileIdx_apply b x _ hb)
  unfold tileWord
  pointwise
  rw [e, hb, ge_of_code]
  split <;> rfl

/-- A tile at an index: half `j0 % 2` of the word of the code in row `8 i + j0 / 2`, times the scale of the column. -/
theorem tile_apply (t0 t1 : Vec F S1x8x128 .i32) (s : Vec F S1x128 .f32) (w : Vec F S32x128 .i8) (i : ℕ) (hi : i < 4)
    (j0 : Fin 16) (j1 : Fin 128) (r : Fin 32) (hr : r.val = 8 * i + j0.val / 2) (q : Fin 8) (hq : q.val = j0.val / 2) :
    tile t0 t1 s w i hi (ix2 j0 j1) = FloatOps.mulf
      (FloatOps.ofBits .bf16 (BitVec.extractLsb' (16 * (j0.val % 2)) 16
        (if (w (ix2 r j1)).toNat / 128 = 1 then t1 (ix3 0 q (loOf (w (ix2 r j1)))) else t0 (ix3 0 q (loOf (w (ix2 r j1)))))))
      (FloatOps.truncf .bf16 bitsLt_bf16_f32 (s (ix2 0 j1))) := by
  unfold tile
  pointwise
  rw [bitcast_32_16]
  have hrow : S16x128.row (ix2 j0 j1) = j0.val := rfl
  have hsrc : ∀ h, bitcasts_S8x128_w32_S16x128_w16.srcIdx (ix2 j0 j1) (S16x128.row (ix2 j0 j1) / 2) h = ix2 q j1 := by
    intro h
    funext a
    match a with
    | ⟨0, _⟩ => exact Fin.ext hq.symm
    | ⟨1, _⟩ => rfl
  rw [hsrc, tileWord_apply t0 t1 _ (w (ix2 r j1)) q j1, hrow]
  pointwise
  congr 3
  exact Fin.ext (by show 8 * i + q.val = r.val; omega)

/-- The code row of weight row `K`. -/
def rowOf (K : Fin 1024) : Fin 512 := ⟨K.val / 2, by omega⟩

/-- The table row of weight row `K`. -/
def subOf (K : Fin 1024) : Fin 8 := ⟨K.val / 2 % 8, by omega⟩

/-- The scale row of weight row `K`. -/
def blkOf (K : Fin 1024) : Fin 16 := ⟨K.val / 64, by omega⟩

/-- The weight of the scratch at row `K` and column `n`: half `K % 2` of the word of the code at row `K / 2`, times the
    scale of row block `K / 64`. -/
def wdAt (x0 : Vec F S2x8x128 .i32) (x2 : Vec F S512x512 .i8) (x3 : Vec F S16x512 .f32) (K : Fin 1024) (n : Fin 512) : Elt F .bf16 :=
  FloatOps.mulf
    (FloatOps.ofBits .bf16 (BitVec.extractLsb' (16 * (K.val % 2)) 16
      (x0 (ix3 (hiOf (x2 (ix2 (rowOf K) n))) (subOf K) (loOf (x2 (ix2 (rowOf K) n)))))))
    (FloatOps.truncf .bf16 bitsLt_bf16_f32 (x3 (ix2 (blkOf K) n)))

/-- Choosing a table by a code's quotient is reading the table of the code. -/
theorem table_eq (x0 : Vec F S2x8x128 .i32) (x : BitVec 8) (q : Fin 8) (l : Fin 128) :
    (if x.toNat / 128 = 1 then x0 (ix3 1 q l) else x0 (ix3 0 q l)) = x0 (ix3 (hiOf x) q l) := by
  have hlt := x.isLt
  split
  · rename_i h; rw [show hiOf x = 1 from Fin.ext h]
  · rename_i h
    rw [show hiOf x = 0 from Fin.ext (by show x.toNat / 128 = 0; omega)]

section
variable (arg1 : Memref sig .tc .vmem S2x8x128 .i32) (harg1 : arg1.IsWhole) (arg3 : Memref sig .tc .vmem S512x512 .i8) (harg3 : arg3.IsWhole)
    (arg4 : Memref sig .tc .vmem S16x512 .f32) (harg4 : arg4.IsWhole) (x0 : Vec F S2x8x128 .i32) (x2 : Vec F S512x512 .i8) (x3 : Vec F S16x512 .f32)

/-- Every tile is the scratch's weights at the tile's place. -/
theorem piece_apply (n : ℕ) (hn : n < 256) (a : Fin 16) (b : Fin 128) (K : Fin 1024) (N : Fin 512)
    (hK : K.val = n % 64 * 16 + a.val) (hN : N.val = n / 64 * 128 + b.val) :
    weights arg1 harg1 arg3 harg3 arg4 harg4 x0 x2 x3 n hn (ix2 a b) = wdAt x0 x2 x3 K N := by
  refine (tile_apply _ _ _ _ (n % 4) (Nat.mod_lt _ (by decide)) a b ⟨8 * (n % 4) + a.val / 2, by omega⟩ rfl ⟨a.val / 2, by omega⟩ rfl).trans ?_
  unfold wdAt
  simp only [View.readAt_eq_ld, Memref.IsWhole.read_unread]
  pointwise
  have e1 : ∀ h, (⟨n / 4 % 16 * 32 + (8 * (n % 4) + a.val / 2), h⟩ : Fin 512) = rowOf K := fun _ =>
    Fin.ext (by show n / 4 % 16 * 32 + (8 * (n % 4) + a.val / 2) = K.val / 2; omega)
  have e2 : ∀ h, (⟨n / 64 * 128 + b.val, h⟩ : Fin 512) = N := fun _ => Fin.ext hN.symm
  have e3 : ∀ h, (⟨n / 4 % 16, h⟩ : Fin 16) = blkOf K := fun _ => Fin.ext (by show n / 4 % 16 = K.val / 64; omega)
  have e4 : ∀ h, (⟨a.val / 2, h⟩ : Fin 8) = subOf K := fun _ => Fin.ext (by show a.val / 2 = K.val / 2 % 8; omega)
  have e5 : a.val % 2 = K.val % 2 := by omega
  rw [e1, e2, e3, e4, e5, table_eq]

/-- The row of an element of tile `n` in the scratch, -/
theorem place_emb0 (n : ℕ) (hn : n < 256) (a : Fin 16) (b : Fin 128) : ((place n hn).emb (ix2 a b) 0).val = n % 64 * 16 + a.val := by
  show n % 64 * 16 + 1 * a.val = _
  omega

/-- and its column. -/
theorem place_emb1 (n : ℕ) (hn : n < 256) (a : Fin 16) (b : Fin 128) : ((place n hn).emb (ix2 a b) 1).val = n / 64 * 128 + b.val := by
  show n / 64 * 128 + 1 * b.val = _
  omega

/-- The weights of one grid point, as an array. -/
def wd (x0 : Vec F S2x8x128 .i32) (x2 : Vec F S512x512 .i8) (x3 : Vec F S16x512 .f32) : Vec F S1024x512 .bf16 :=
  fun y => wdAt x0 x2 x3 (y 0) (y 1)

/-- Every tile agrees with the array of weights, -/
theorem piece_agree_ix2 (n : ℕ) (hn : n < 256) (a : Fin 16) (b : Fin 128) :
    weights arg1 harg1 arg3 harg3 arg4 harg4 x0 x2 x3 n hn (ix2 a b) = wd x0 x2 x3 ((place n hn).emb (ix2 a b)) := by
  exact piece_apply arg1 harg1 arg3 harg3 arg4 harg4 x0 x2 x3 n hn _ _ _ _ (place_emb0 n hn _ _) (place_emb1 n hn _ _)

/-- at any index. -/
theorem piece_agree (n : ℕ) (hn : n < 256) (x : S16x128.Idx) :
    weights arg1 harg1 arg3 harg3 arg4 harg4 x0 x2 x3 n hn x = wd x0 x2 x3 ((place n hn).emb x) := by
  have e : x = ix2 (x 0) (x 1) := by
    funext a
    match a with
    | ⟨0, _⟩ => rfl
    | ⟨1, _⟩ => rfl
  rw [e]
  exact piece_agree_ix2 arg1 harg1 arg3 harg3 arg4 harg4 x0 x2 x3 n hn _ _

/-- Some tile holds each element of the scratch. -/
theorem place_cover (y : S1024x512.Idx) : ∃ (n : ℕ) (hn : n < 256), y ∈ (place n hn).set := by
  have h0 : (y 0).val < 1024 := (y 0).isLt
  have h1 : (y 1).val < 512 := (y 1).isLt
  have hn : (y 1).val / 128 * 64 + (y 0).val / 16 < 256 := by omega
  refine ⟨(y 1).val / 128 * 64 + (y 0).val / 16, hn, ?_⟩
  unfold place
  rw [Rect.mem_set_unit]
  intro a
  match a with
  | ⟨0, _⟩ =>
    show ((y 1).val / 128 * 64 + (y 0).val / 16) % 64 * 16 ≤ (y 0).val ∧ (y 0).val < ((y 1).val / 128 * 64 + (y 0).val / 16) % 64 * 16 + 16
    omega
  | ⟨1, _⟩ =>
    show ((y 1).val / 128 * 64 + (y 0).val / 16) / 64 * 128 ≤ (y 1).val ∧ (y 1).val < ((y 1).val / 128 * 64 + (y 0).val / 16) / 64 * 128 + 128
    omega

/-- The scratch after the 256 stores, at an index. -/
theorem canon_pieces (y : S1024x512.Idx) :
    View.canon (newestFirst (piece arg1 harg1 arg3 harg3 arg4 harg4 x0 x2 x3) 256 (Nat.le_refl _)) y = wd x0 x2 x3 y := by
  apply View.canon_apply_of_pieces (Val := Elt F) (wd x0 x2 x3)
  · intro p hp
    have hp' := (mem_newestFirst (piece arg1 harg1 arg3 harg3 arg4 harg4 x0 x2 x3) p 256 (Nat.le_refl _)).mp hp
    obtain ⟨n, hn, -, e⟩ := hp'
    subst e
    exact piece_agree arg1 harg1 arg3 harg3 arg4 harg4 x0 x2 x3 n hn
  · obtain ⟨n, hn, hy⟩ := place_cover y
    exact ⟨_, (mem_newestFirst _ _ _ _).mpr ⟨n, hn, hn, rfl⟩, hy⟩
end

/-! ## What one grid point computes -/

section
variable (c : Dev nD) (i : grid0.Coords) (arg1 : Memref sig .tc .vmem S2x8x128 .i32) (harg1 : arg1.IsWhole) (arg2 : Memref sig .tc .vmem S1536x1024 .bf16) (harg2 : arg2.IsWhole) (arg3 : Memref sig .tc .vmem S512x512 .i8) (harg3 : arg3.IsWhole) (arg4 : Memref sig .tc .vmem S16x512 .f32) (harg4 : arg4.IsWhole) (arg5 : Memref sig .tc .vmem S1024x16 .bf16) (harg5 : arg5.IsWhole) (arg6 : Memref sig .tc .vmem S16x512 .bf16) (harg6 : arg6.IsWhole) (arg7 : Memref sig .tc .vmem S1536x512 .bf16) (harg7 : arg7.IsWhole) (arg8 : Memref sig .tc .vmem S1536x16 .bf16) (harg8 : arg8.IsWhole) (arg9 : Memref sig .tc .vmem S1024x512 .bf16) (harg9 : arg9.IsWhole)
    (x0 : Vec F S2x8x128 .i32) (x1 : Vec F S1536x1024 .bf16) (x2 : Vec F S512x512 .i8) (x3 : Vec F S16x512 .f32) (x4 : Vec F S1024x16 .bf16) (x5 : Vec F S16x512 .bf16)

/-- What a load of the whole scratch reads after the 256 stores. -/
theorem load_pieces :
    (fun j => View.canon (newestFirst (piece arg1 harg1 arg3 harg3 arg4 harg4 x0 x2 x3) 256 (Nat.le_refl _))
      ((Rect.unit ![0, 0] S1024x512.size inb_S1024x512_S1024x512_0_0).toLoadRect.idx j)) = wd x0 x2 x3 := by
  funext j
  rw [canon_pieces]
  exact congrFun (View.ld_unit_lit (Val := Elt F) inb_S1024x512_S1024x512_0_0 (wd x0 x2 x3) (by decide)) j

/-- A later grid point reads these weights back, -/
theorem scratchB : kernelRun0_B.sl.v7433 c arg1 harg1 arg3 harg3 arg4 harg4 arg9 x0 x2 x3 = wd x0 x2 x3 := by
  unfold kernelRun0_B.sl.v7433
  rw [View.readCov_eq_canon', piecesB]
  exact load_pieces arg1 harg1 arg3 harg3 arg4 harg4 x0 x2 x3

/-- and so does the first. -/
theorem scratchA : kernelRun0_A.sl.v7433 c arg1 harg1 arg3 harg3 arg4 harg4 arg9 x0 x2 x3 = wd x0 x2 x3 := by
  unfold kernelRun0_A.sl.v7433
  rw [View.readCov_eq_canon', piecesA]
  exact load_pieces arg1 harg1 arg3 harg3 arg4 harg4 x0 x2 x3

/-- A later grid point's output block, from the carried adapter product `xs0`. -/
theorem outB (hc0 : ¬cond0_0 i) (xs0 : Vec F S1536x16 .bf16) :
    out0_B_6 c i arg1 harg1 arg2 harg2 arg3 harg3 arg4 harg4 arg5 harg5 arg6 harg6 arg7 harg7 arg8 harg8 arg9 harg9 hc0 x0 x1 x2 x3 x4 x5 xs0
      = k0_pay834 x1 (wd x0 x2 x3) xs0 x5 := by
  unfold out0_B_6
  rw [View.read_writes_junk_eq_canon]
  unfold kernelRun0_B
  dsimp only
  unfold kernelRun0_B.sl.r_537
  rw [scratchB]
  simp only [View.readAt_eq_ld, Memref.IsWhole.read_unread]
  rw [View.ld_unit_lit _ _ (by decide), View.ld_unit_lit _ _ (by decide), View.ld_unit_lit _ _ (by decide)]
  exact View.canon_cons_unit_lit (Val := Elt F) inb_S1536x512_S1536x512_0_0 _ _ (by decide)

/-- The adapter product that the first grid point leaves in its scratch. -/
theorem adapterA (hc0 : cond0_0 i) :
    sout0_A_0 c i arg1 harg1 arg2 harg2 arg3 harg3 arg4 harg4 arg5 harg5 arg6 harg6 arg7 harg7 arg8 harg8 arg9 harg9 hc0 x0 x1 x2 x3 x4 x5
      = k0_pay1 x1 x4 := by
  unfold sout0_A_0
  rw [View.read_writes_junk_eq_canon]
  unfold kernelRun0_A
  dsimp only
  unfold kernelRun0_A.sl.HS0_1
  simp only [View.readAt_eq_ld, Memref.IsWhole.read_unread]
  rw [View.ld_unit_lit _ _ (by decide), View.ld_unit_lit _ _ (by decide)]
  exact View.canon_cons_unit_lit (Val := Elt F) inb_S1536x16_S1536x16_0_0 _ _ (by decide)

/-- The first grid point's output block: as a later one's, from that product. -/
theorem outA (hc0 : cond0_0 i) :
    out0_A_6 c i arg1 harg1 arg2 harg2 arg3 harg3 arg4 harg4 arg5 harg5 arg6 harg6 arg7 harg7 arg8 harg8 arg9 harg9 hc0 x0 x1 x2 x3 x4 x5
      = k0_pay834 x1 (wd x0 x2 x3) (k0_pay1 x1 x4) x5 := by
  unfold out0_A_6
  rw [View.read_writes_junk_eq_canon]
  unfold kernelRun0_A
  dsimp only
  unfold kernelRun0_A.sl.r_537
  rw [scratchA]
  unfold kernelRun0_A.sl.v7435 kernelRun0_A.sl.HS0_1
  rw [View.readCov_unit_lit _ _ _ (by decide)]
  simp only [View.readAt_eq_ld, Memref.IsWhole.read_unread]
  rw [View.ld_unit_lit _ _ (by decide), View.ld_unit_lit _ _ (by decide), View.ld_unit_lit _ _ (by decide)]
  exact View.canon_cons_unit_lit (Val := Elt F) inb_S1536x512_S1536x512_0_0 _ _ (by decide)
end
end Cert.Tiles
-- ==== Proof.Array.lean ====
module
public import proofs.«01_k».proof.Proof.TileValue
public import proofs.«01_k».proof.Proof.Gen.KernelIdeal.Frame
public import Idealize.ShloMosaic.Lib.Pipeline.Value
@[expose] public section

/-!
# The kernel's result array

Every grid point leaves one column block of the product of the activations with the weights plus the adapter's product;
the scratch carried from the first grid point holds the adapter's first product throughout. Together the blocks are the
array `outAt`, and the result is that array laid out by batch and position.
-/

set_option maxRecDepth 16384

noncomputable section
namespace Cert.Tiles
open Cert.KernelIdeal Cert.KernelIdeal.Gen
open Idealize.ShloMosaic Idealize.ShloMosaic.TcCoe Idealize.ShloMosaic.Tactic
open Idealize.SL Idealize.SL.RA Idealize.SL.BI Idealize.SL.Sem
open Idealize.ShloMosaic.Pipeline (Dat)

/-! ## The body's products at an index -/

/-- The adapter's first product at an index: the activations times the first factor, doubled. -/
theorem adapter_apply (x : Vec Ideal S1536x1024 .bf16) (a : Vec Ideal S1024x16 .bf16) (p : Fin 1536) (r : Fin 16) :
    k0_pay1 (F := Ideal) x a (ix2 p r)
      = ((∑ k : Fin 1024, x (ix2 p k) * a (ix2 k r) : EReal) * (Ideal.ofBits .f32 0x40000000#32 : EReal) : EReal) := by
  unfold k0_pay1
  pointwise

/-- An output block at an index: the weights' product plus the adapter's. -/
theorem block_apply (x : Vec Ideal S1536x1024 .bf16) (w : Vec Ideal S1024x512 .bf16) (h : Vec Ideal S1536x16 .bf16)
    (b : Vec Ideal S16x512 .bf16) (p : Fin 1536) (n : Fin 512) :
    k0_pay834 (F := Ideal) x w h b (ix2 p n)
      = ((∑ k : Fin 1024, x (ix2 p k) * w (ix2 k n) : EReal) + (∑ r : Fin 16, h (ix2 p r) * b (ix2 r n) : EReal) : EReal) := by
  unfold k0_pay834
  pointwise

section Run
variable {F : FTy → Type} [FloatOps F]
variable (m : (ℓ : Loc nD τ sig) → Buf (Elt F) ℓ) (ρ : Dev nD → PrngReg) (c : Dev nD)

/-! ## The windows' blocks -/

/-- Windows 0, 1 and 4 stage their whole arrays; windows 2, 3, 5 and 6 a block of 512 columns. -/
theorem index_facts : ∀ t : Fin cfg0.N,
    (∀ a, win0_0.index t a = 0) ∧ (∀ a, win0_1.index t a = 0) ∧ (∀ a, win0_4.index t a = 0)
    ∧ win0_2.index t = ![0, t.val] ∧ win0_3.index t = ![0, t.val] ∧ win0_5.index t = ![0, t.val] ∧ win0_6.index t = ![0, t.val] :=
  (by decide +kernel : ∀ t : Fin grid0.N, _)

/-- The array index of column `n` of block `t`. -/
def col (t : Fin cfg0.N) (n : Fin 512) : Fin 4096 := ⟨t.val * 512 + n.val, by
  have h := lt_of_lt_of_eq t.isLt (show cfg0.N = 8 from N_0); omega⟩

/-- The activations as the region finds them. -/
abbrev vx : Vec F S1536x1024 .bf16 := V m c main_v0
/-- The two tables as the region finds them. -/
abbrev vt : Vec F S2x8x128 .i32 := V m c main_c
/-- The codes as the region finds them. -/
abbrev vc : Vec F S512x4096 .i8 := V m c main_arg1
/-- The scales as the region finds them. -/
abbrev vs : Vec F S16x4096 .f32 := V m c main_arg2
/-- The adapter's first factor as the region finds it. -/
abbrev va : Vec F S1024x16 .bf16 := V m c main_arg3
/-- The adapter's second factor as the region finds it. -/
abbrev vb : Vec F S16x4096 .bf16 := V m c main_arg4

/-- At every grid point the tables are staged whole. -/
theorem iblk0 (t : Fin cfg0.N) : (iblk m c 0 t : Vec F S2x8x128 .i32) = vt m c := by
  have e := (index_facts t).1
  funext y
  show vt m c _ = _
  congr 1
  funext a; apply Fin.ext
  show win0_0.index t a * S2x8x128.size a + 1 * (y a).val = (y a).val
  rw [e a]; omega

/-- At every grid point the activations are staged whole. -/
theorem iblk1 (t : Fin cfg0.N) : (iblk m c 1 t : Vec F S1536x1024 .bf16) = vx m c := by
  have e := (index_facts t).2.1
  funext y
  show vx m c _ = _
  congr 1
  funext a; apply Fin.ext
  show win0_1.index t a * S1536x1024.size a + 1 * (y a).val = (y a).val
  rw [e a]; omega

/-- At every grid point the adapter's first factor is staged whole. -/
theorem iblk4 (t : Fin cfg0.N) : (iblk m c 4 t : Vec F S1024x16 .bf16) = va m c := by
  have e := (index_facts t).2.2.1
  funext y
  show va m c _ = _
  congr 1
  funext a; apply Fin.ext
  show win0_4.index t a * S1024x16.size a + 1 * (y a).val = (y a).val
  rw [e a]; omega

/-- The staged codes are a block of 512 columns of the codes. -/
theorem iblk2 (t : Fin cfg0.N) (k : Fin 512) (n : Fin 512) :
    (iblk m c 2 t : Vec F S512x512 .i8) (ix2 k n) = vc m c (ix2 k (col t n)) := by
  have e := (index_facts t).2.2.2.1
  show vc m c _ = _
  congr 1
  funext a; apply Fin.ext
  match a with
  | ⟨0, _⟩ => show win0_2.index t 0 * 512 + 1 * k.val = k.val; rw [e]; show 0 * 512 + 1 * k.val = k.val; omega
  | ⟨1, _⟩ => show win0_2.index t 1 * 512 + 1 * n.val = t.val * 512 + n.val; rw [e]; show t.val * 512 + 1 * n.val = t.val * 512 + n.val; omega

/-- The staged scales are a block of 512 columns of the scales. -/
theorem iblk3 (t : Fin cfg0.N) (k : Fin 16) (n : Fin 512) :
    (iblk m c 3 t : Vec F S16x512 .f32) (ix2 k n) = vs m c (ix2 k (col t n)) := by
  have e := (index_facts t).2.2.2.2.1
  show vs m c _ = _
  congr 1
  funext a; apply Fin.ext
  match a with
  | ⟨0, _⟩ => show win0_3.index t 0 * 16 + 1 * k.val = k.val; rw [e]; show 0 * 16 + 1 * k.val = k.val; omega
  | ⟨1, _⟩ => show win0_3.index t 1 * 512 + 1 * n.val = t.val * 512 + n.val; rw [e]; show t.val * 512 + 1 * n.val = t.val * 512 + n.val; omega

/-- The staged second factor is a block of 512 columns of the adapter's second factor. -/
theorem iblk5 (t : Fin cfg0.N) (k : Fin 16) (n : Fin 512) :
    (iblk m c 5 t : Vec F S16x512 .bf16) (ix2 k n) = vb m c (ix2 k (col t n)) := by
  have e := (index_facts t).2.2.2.2.2.1
  show vb m c _ = _
  congr 1
  funext a; apply Fin.ext
  match a with
  | ⟨0, _⟩ => show win0_5.index t 0 * 16 + 1 * k.val = k.val; rw [e]; show 0 * 16 + 1 * k.val = k.val; omega
  | ⟨1, _⟩ => show win0_5.index t 1 * 512 + 1 * n.val = t.val * 512 + n.val; rw [e]; show t.val * 512 + 1 * n.val = t.val * 512 + n.val; omega

/-! ## What the grid points leave -/

/-- The carried scratch holds the adapter's first product after every grid point. -/
theorem carried : ∀ (n : ℕ) (hn : n < cfg0.N), (outsAt0 m c n hn).2 = k0_pay1 (vx m c) (va m c)
  | 0, hn => by
    rw [outsAt0_A m c ⟨0, hn⟩ (Nat.zero_mod _)]
    dsimp only
    rw [adapterA, iblk1, iblk4]
  | n + 1, hn => by
    have hN := lt_of_lt_of_eq hn (show cfg0.N = 8 from N_0)
    rw [outsAt0_B m c ⟨n + 1, hn⟩ (by show ¬(n + 1) % 8 = 0; omega)]
    exact carried n _

/-- Every grid point's output block. -/
theorem block (t : Fin cfg0.N) : (outsAt0 m c t.val t.isLt).1
    = k0_pay834 (vx m c) (wd (vt m c) (iblk m c 2 t) (iblk m c 3 t)) (k0_pay1 (vx m c) (va m c)) (iblk m c 5 t) := by
  by_cases h0 : t.val % 8 = 0
  · rw [outsAt0_A m c t h0]
    dsimp only
    rw [outA, iblk0, iblk1, iblk4]
  · rw [outsAt0_B m c t h0]
    dsimp only
    rw [outB, carried, iblk0, iblk1]

/-- The weight at row `K` and column `n` of the whole array. -/
def weightAt (t : Vec F S2x8x128 .i32) (q : Vec F S512x4096 .i8) (s : Vec F S16x4096 .f32) (K : Fin 1024) (n : Fin 4096) : Elt F .bf16 :=
  FloatOps.mulf
    (FloatOps.ofBits .bf16 (BitVec.extractLsb' (16 * (K.val % 2)) 16
      (t (ix3 (hiOf (q (ix2 (rowOf K) n))) (subOf K) (loOf (q (ix2 (rowOf K) n)))))))
    (FloatOps.truncf .bf16 bitsLt_bf16_f32 (s (ix2 (blkOf K) n)))

/-- A grid point's weights are a block of 512 columns of the whole array's weights. -/
theorem wd_block (t : Fin cfg0.N) (K : Fin 1024) (n : Fin 512) :
    wd (vt m c) (iblk m c 2 t) (iblk m c 3 t) (ix2 K n) = weightAt (vt m c) (vc m c) (vs m c) K (col t n) := by
  show wdAt (vt m c) (iblk m c 2 t) (iblk m c 3 t) K n = _
  unfold wdAt weightAt
  rw [iblk2, iblk3]

end Run

/-! ## The result array -/

/-- The result at row `p` and column `n`: the row of the activations times the column of the weights, plus the row of
    the doubled adapter product times the column of the second factor. -/
def outAt (x : Vec Ideal S1536x1024 .bf16) (t : Vec Ideal S2x8x128 .i32) (q : Vec Ideal S512x4096 .i8) (s : Vec Ideal S16x4096 .f32)
    (a : Vec Ideal S1024x16 .bf16) (b : Vec Ideal S16x4096 .bf16) (p : Fin 1536) (n : Fin 4096) : EReal :=
  (∑ k : Fin 1024, x (ix2 p k) * weightAt t q s k n : EReal)
    + (∑ r : Fin 16, ((∑ k : Fin 1024, x (ix2 p k) * a (ix2 k r) : EReal) * (Ideal.ofBits .f32 0x40000000#32 : EReal)) * b (ix2 r n) : EReal)

section Run
variable (m : (ℓ : Loc nD τ sig) → Buf (Elt Ideal) ℓ) (ρ : Dev nD → PrngReg) (c : Dev nD)

/-- The array the kernel leaves, whole. -/
def outArray : Vec Ideal S1536x4096 .bf16 := fun i => outAt (vx m c) (vt m c) (vc m c) (vs m c) (va m c) (vb m c) (i 0) (i 1)

/-- An output block at an index is the whole result at the block's column. -/
theorem block_at (t : Fin cfg0.N) (p : Fin 1536) (n : Fin 512) :
    (outsAt0 m c t.val t.isLt).1 (ix2 p n) = outArray m c (ix2 p (col t n)) := by
  have e : outArray m c (ix2 p (col t n)) = outAt (vx m c) (vt m c) (vc m c) (vs m c) (va m c) (vb m c) p (col t n) := rfl
  rw [block, block_apply, e, outAt, Finset.sum_congr rfl fun k _ => by rw [wd_block],
    Finset.sum_congr (s₁ := (Finset.univ : Finset (Fin 16))) rfl fun r _ => by rw [adapter_apply, iblk5]]

/-- What grid point `t` writes back is block `t` of the array. -/
theorem flushed (t : Fin cfg0.N) :
    (dats m 0 c).flushed 6 t = ((cfg0.win 6).blk t).view.read (Elt Ideal) (outArray m c) := by
  show (cfg0.win 6).cut (grid0.coords t) ((dats m 0 c).after 6 t) = _
  rw [after0_6]
  have e := (index_facts t).2.2.2.2.2.2
  funext y
  show (outsAt0 m c t.val t.isLt).1 ((cfg0.win 6).xinj (grid0.coords t) y) = outArray m c (((cfg0.win 6).blk t).view.emb y)
  have hy0 : (y 0).val < 1536 := (y 0).isLt
  have hy1 : (y 1).val < 512 := (y 1).isLt
  have el : (cfg0.win 6).xinj (grid0.coords t) y = ix2 (⟨(y 0).val, hy0⟩ : Fin 1536) (⟨(y 1).val, hy1⟩ : Fin 512) := by
    funext a
    match a with
    | ⟨0, _⟩ => rfl
    | ⟨1, _⟩ => rfl
  have er : ((cfg0.win 6).blk t).view.emb y = ix2 (⟨(y 0).val, hy0⟩ : Fin 1536) (col t ⟨(y 1).val, hy1⟩) := by
    funext a; apply Fin.ext
    match a with
    | ⟨0, _⟩ => show win0_6.index t 0 * 1536 + 1 * (y 0).val = (y 0).val; rw [e]; show 0 * 1536 + 1 * (y 0).val = (y 0).val; omega
    | ⟨1, _⟩ => show win0_6.index t 1 * 512 + 1 * (y 1).val = t.val * 512 + (y 1).val; rw [e]; show t.val * 512 + 1 * (y 1).val = t.val * 512 + (y 1).val; omega
  rw [el, er, block_at]

/-- An index is in block `t` when each coordinate is in the block's range. -/
theorem mem_block (t : Fin cfg0.N) (i : S1536x4096.Idx) :
    i ∈ ((cfg0.win 6).blk t).view.set ↔ ∀ a : Fin 2, win0_6.index t a * S1536x512.size a ≤ (i a).val ∧ (i a).val < win0_6.index t a * S1536x512.size a + S1536x512.size a := by
  show i ∈ ((View.whole main_v1).slice (win0_6.rect t)).set ↔ _
  rw [View.set_slice_whole, Rect.mem_set_unit]
  exact Iff.rfl

/-- Every index of the array is in the block of the grid point that holds its column. -/
theorem covered (i : S1536x4096.Idx) : ∃ t : Fin cfg0.N, (cfg0.win 6).flush t = true ∧ i ∈ ((cfg0.win 6).blk t).view.set := by
  have hi0 : (i 0).val < 1536 := (i 0).isLt
  have hi1 : (i 1).val < 4096 := (i 1).isLt
  refine ⟨⟨(i 1).val / 512, lt_of_lt_of_eq (by omega) (show 8 = cfg0.N from N_0.symm)⟩, ?_, ?_⟩
  · exact (by decide +kernel : ∀ t : Fin grid0.N, win0_6.flush t = true) _
  · rw [mem_block]
    have e := (index_facts ⟨(i 1).val / 512, lt_of_lt_of_eq (by omega) (show 8 = cfg0.N from N_0.symm)⟩).2.2.2.2.2.2
    intro a
    rw [e]
    match a with
    | ⟨0, _⟩ => show 0 * 1536 ≤ (i 0).val ∧ (i 0).val < 0 * 1536 + 1536; omega
    | ⟨1, _⟩ => show (i 1).val / 512 * 512 ≤ (i 1).val ∧ (i 1).val < (i 1).val / 512 * 512 + 512; omega

/-- The array after the run. -/
theorem final : (dats m 0 c).arrAt 6 cfg0.N = outArray m c :=
  (dats m 0 c).arrAt_eq_of_cover 6 _ (fun t _ => flushed m c t) covered

/-- The activations reach the region laid out by row. -/
theorem vx_eq : vx m c = shapeCast S1536x1024 (m ((c : Thread nD τ).loc main_arg0)) shapeCasts_S12x128x1024_S1536x1024 := by
  show StableHlo.after (List.flatten [hostOps0]) (fun b => m (c, b)) (Proc.devRef .tc main_v0) = _
  rw [List.flatten_cons, List.flatten_nil, List.append_nil]
  after_results
  rfl

/-- The tables reach the region as the constants they are. -/
theorem vt_eq : vt m c = fun i => lit0 (S2x8x128.rowMajor i) := by
  show StableHlo.after (List.flatten [hostOps0]) (fun b => m (c, b)) (Proc.devRef .tc main_c) = _
  rw [List.flatten_cons, List.flatten_nil, List.append_nil]
  after_results
  rfl

/-- The result is the array laid out by batch and position. -/
theorem result_eq : Pipeline.afterTail₀ cfgs (dats m) 0 (V0 m) [hostOps1] c main_v2
    = shapeCast S12x128x4096 (outArray m c) shapeCasts_S1536x4096_S12x128x4096 := by
  unfold Pipeline.afterTail₀
  rw [List.flatten_cons, List.flatten_nil, List.append_nil]
  simp only [StableHlo.after_cons, StableHlo.after_nil]
  rw [StableHlo.reshape_result]
  rw [← final m c]
  have e := Pipeline.withArrays_arr spec0 (by decide : Function.Injective (Pipeline.arrRef spec0)) c (V0 m c) (fun w => (dats m 0 c).arrAt w cfg0.N) 6
  exact congrArg (fun X => shapeCast S12x128x4096 X shapeCasts_S1536x4096_S12x128x4096) e

/-- The kernel's run: the result is the array laid out by batch and position, the arguments are unchanged. -/
theorem run : θ_run defs (onTc (τ := τ) (main (F := Ideal))) ⟨m, fun _ => 0, ρ⟩ fun r => ∀ c : Dev nD,
      r.2.mem ((c.tc : Thread nD τ).loc main_v2) = shapeCast S12x128x4096 (outArray m c) shapeCasts_S1536x4096_S12x128x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨
      ((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c)))⟩)
    (run_main m ρ)

end Run

end Cert.Tiles
end
-- ==== Proof.Reference.lean ====
module
public import proofs.«01_k».proof.Proof.Gen.ReferenceIdeal
public import proofs.«01_k».proof.Proof.Gen.ReferenceIdeal.Run
public import Idealize.ShloMosaic.Lib.Pipeline.ValueKit
@[expose] public section

/-!
# The reference's result at an index
-/

set_option maxRecDepth 16384

noncomputable section
namespace Cert.Reference
open Cert.ReferenceIdeal Cert.ReferenceIdeal.Gen Cert.ReferenceIdeal.Value
open Idealize.ShloMosaic Idealize.ShloMosaic.TcCoe Idealize.ShloMosaic.Tactic
open Idealize.SL Idealize.SL.RA Idealize.SL.BI Idealize.SL.Sem

variable (V0 : Valuation τ sig (Elt Ideal))

/-- The codes' nibbles, the low one first, by block of 32 code rows. -/
abbrev nibbles : IVec S2x16x32x4096 32 := res_main_v8 (F := Ideal) V0

/-- The codes. -/
abbrev codes : Vec Ideal S512x4096 .i8 := V0 (Proc.devRef .tc main_arg1)

/-- The scales. -/
abbrev scales : Vec Ideal S16x4096 .f32 := V0 (Proc.devRef .tc main_arg2)

/-- The code row of row `j` of block `b`. -/
def codeRow (b : Fin 16) (j : Fin 32) : Fin 512 := ⟨b.val * 32 + j.val, by omega⟩

/-- The nibble of a code: the low one at `0`, the high one at `1`. -/
def nibble (x : BitVec 8) (t : Fin 2) : BitVec 32 := if t = 0 then x.setWidth 32 &&& 15#32 else x.setWidth 32 >>> 4

/-- The reference's nibbles at an index: nibble `t` of the code in row `j` of block `b`. -/
theorem nibbles_apply (t : Fin 2) (b : Fin 16) (j : Fin 32) (n : Fin 4096) :
    nibbles V0 (ix4 t b j n) = nibble (codes V0 (ix2 (codeRow b j) n)) t := by
  have e0 : nibbles V0 (ix4 0 b j n) = nibble (codes V0 (ix2 (codeRow b j) n)) 0 := by
    unfold nibbles res_main_v8 res_main_v0
    pointwise
    rfl
  have e1 : nibbles V0 (ix4 1 b j n) = nibble (codes V0 (ix2 (codeRow b j) n)) 1 := by
    unfold nibbles res_main_v8 res_main_v0
    pointwise
    exact (by decide +kernel : ∀ x : BitVec 8, IntOp.shrsi ArithUnit.host (x.setWidth 32) 4#32 = nibble x 1) _
  match t with
  | 0 => exact e0
  | 1 => exact e1

/-- One of sixteen, by four bits from the highest. -/
def pick {α : Type} (b3 b2 b1 b0 : BitVec 1) (e : Fin 16 → α) : α :=
  Scalar.select b3
    (Scalar.select b2 (Scalar.select b1 (Scalar.select b0 (e 15) (e 14)) (Scalar.select b0 (e 13) (e 12)))
      (Scalar.select b1 (Scalar.select b0 (e 11) (e 10)) (Scalar.select b0 (e 9) (e 8))))
    (Scalar.select b2 (Scalar.select b1 (Scalar.select b0 (e 7) (e 6)) (Scalar.select b0 (e 5) (e 4)))
      (Scalar.select b1 (Scalar.select b0 (e 3) (e 2)) (Scalar.select b0 (e 1) (e 0))))

/-- A function of a choice is the choice of its values. -/
theorem select_map {α β : Type} (f : α → β) (c : BitVec 1) (a b : α) :
    f (Scalar.select c a b) = Scalar.select c (f a) (f b) := by
  unfold Scalar.select
  split <;> rfl

/-- A function of one of sixteen is one of its sixteen values. -/
theorem pick_map {α β : Type} (f : α → β) (b3 b2 b1 b0 : BitVec 1) (e : Fin 16 → α) :
    f (pick b3 b2 b1 b0 e) = pick b3 b2 b1 b0 fun k => f (e k) := by
  unfold pick
  simp only [select_map f]

/-- The sixteen values of the number format, rounded to bfloat16, from the lowest. -/
def levels : Fin 16 → BitVec 16 :=
  ![0xBF80#16, 0xBF32#16, 0xBF06#16, 0xBECA#16, 0xBE92#16, 0xBE3D#16, 0xBDBA#16, 0x0000#16,
    0x3DA3#16, 0x3E25#16, 0x3E7C#16, 0x3EAD#16, 0x3EE2#16, 0x3F10#16, 0x3F39#16, 0x3F80#16]

/-- Bit `k` of a nibble. -/
def bit (w k : BitVec 32) : BitVec 1 := IntOp.cmpi CmpIPredicate.eq (IntOp.andi (IntOp.shrsi ArithUnit.host w k) 1#32) 1#32

/-- The table entry of a nibble. -/
def entry (w : BitVec 32) : BitVec 16 := pick (bit w 3#32) (bit w 2#32) (bit w 1#32) (bit w 0#32) levels

/-- The reference's table value is the entry of the nibble. -/
theorem table_apply (t : Fin 2) (b : Fin 16) (j : Fin 32) (n : Fin 4096) :
    (res_main_v115 (F := Ideal) V0 : Vec Ideal S2x16x32x4096 .bf16) (ix4 t b j n)
      = Ideal.ofBits .bf16 (entry (nibbles V0 (ix4 t b j n))) := by
  unfold entry
  refine Eq.trans ?_ (pick_map (Ideal.ofBits .bf16) _ _ _ _ levels).symm
  unfold res_main_v115
  rfl

/-- The weights of the reference: table values times scales. -/
def weights (T : FVec Ideal S2x16x32x4096 .bf16) (s : FVec Ideal S16x4096 .f32) : FVec Ideal S2x512x4096 .bf16 :=
  shapeCast _ (mulf (F := Ideal) (φ := .bf16) T (broadcastInDim S2x16x32x4096 ![0, 1, 2, 3] bcast_S1x16x1x4096_S2x16x32x4096_0_1_2_3
    (broadcastInDim S1x16x1x4096 ![1, 3] bcast_S16x4096_S1x16x1x4096_1_3 (truncf (F := Ideal) .bf16 s bitsLt_bf16_f32))))
    shapeCasts_S2x16x32x4096_S2x512x4096

/-- The reference's result by row: the product with the weights plus the doubled adapter product. -/
def rows (x : FVec Ideal S1536x1024 .bf16) (w : FVec Ideal S2x512x4096 .bf16) (a : FVec Ideal S1024x16 .bf16) (b : FVec Ideal S16x4096 .bf16) :
    FVec Ideal S1536x4096 .bf16 :=
  truncf (F := Ideal) .bf16 (addf (F := Ideal)
    (Host.dotGeneral (F := Ideal) (φ₁ := .bf16) (φ₂ := .bf16) dot_S1536x2x512_S2x512x4096_S1536x4096_21_10_0_2_n_n none
      (transpose S1536x2x512 [0, 2, 1] (shapeCast _ x shapeCasts_S1536x1024_S1536x512x2) transposes_S1536x512x2_S1536x2x512_0_2_1) w)
    (mulf (Host.dotGeneral (F := Ideal) (φ₁ := .bf16) (φ₂ := .bf16) dot_S1536x16_S16x4096_S1536x4096_1_0_0_1_n_n none
        (truncf .bf16 (Host.dotGeneral (F := Ideal) (φ₁ := .bf16) (φ₂ := .bf16) dot_S1536x1024_S1024x16_S1536x16_1_0_0_1_n_n none x a) bitsLt_bf16_f32) b)
      (broadcastInDim S1536x4096 ![] bcast_S_S1536x4096 (constant S_ .f32 0x40000000#32)))) bitsLt_bf16_f32

/-- The reference's weights at an index: the table value times the scale of its block of 32 code rows. -/
theorem weights_apply (T : FVec Ideal S2x16x32x4096 .bf16) (s : FVec Ideal S16x4096 .f32) (t : Fin 2) (k : Fin 512) (n : Fin 4096) :
    weights T s (ix3 t k n) = (T (ix4 t (⟨k.val / 32, by omega⟩ : Fin 16) (⟨k.val % 32, by omega⟩ : Fin 32) n)
      * s (ix2 (⟨k.val / 32, by omega⟩ : Fin 16) n) : EReal) := by
  unfold weights
  pointwise

/-- The reference's rows at an index, as sums of products. -/
theorem rows_apply (x : FVec Ideal S1536x1024 .bf16) (w : FVec Ideal S2x512x4096 .bf16) (a : FVec Ideal S1024x16 .bf16) (b : FVec Ideal S16x4096 .bf16)
    (p : Fin 1536) (n : Fin 4096) :
    rows x w a b (ix2 p n)
      = ((∑ k : Fin 512, ∑ t : Fin 2, x (ix2 p (⟨k.val * 2 + t.val, by omega⟩ : Fin 1024)) * w (ix3 t k n) : EReal)
        + (∑ r : Fin 16, (∑ k : Fin 1024, x (ix2 p k) * a (ix2 k r) : EReal) * b (ix2 r n) : EReal) * (Ideal.ofBits .f32 0x40000000#32 : EReal) : EReal) := by
  unfold rows
  pointwise

end Cert.Reference
end
-- ==== Proof.Agree.lean ====
module
public import proofs.«01_k».proof.Proof.Array
public import proofs.«01_k».proof.Proof.Reference
public import Idealize.ShloMosaic.Lib.Pipeline.ValueKit
@[expose] public section

/-!
# The kernel's array is the reference's

A word of the kernel's tables holds the values of a code's two nibbles, so the weight at row `2 k + t` is the reference's
weight of nibble `t` of code row `k`. The kernel doubles the adapter's first product where the reference doubles the
second.
-/

set_option maxRecDepth 16384

noncomputable section
namespace Cert.Agree
open Idealize.ShloMosaic Idealize.ShloMosaic.TcCoe Idealize.ShloMosaic.Tactic
open Cert.Tiles Cert.Reference

/-- Half `t` of the word of a code is the entry of the code's nibble `t`, in every row of the tables. -/
theorem word_entry (c : BitVec 8) (q : Fin 8) (t : Fin 2) :
    BitVec.extractLsb' (16 * t.val) 16 (Cert.KernelIdeal.lit0 (Cert.KernelIdeal.S2x8x128.rowMajor (ix3 (hiOf c) q (loOf c)))) = entry (nibble c t) := by
  have h : ∀ (c : BitVec 8) (q : Fin 8) (t : Fin 2),
      BitVec.extractLsb' (16 * t.val) 16 (Cert.KernelIdeal.lit0 (Cert.KernelIdeal.S2x8x128.rowMajor (ix3 (hiOf c) q (loOf c)))) = entry (nibble c t) := by
    decide +kernel
  exact h c q t

/-- A sum of doubled terms is the doubled sum. -/
theorem sum_mul_two {n : ℕ} (f : Fin n → EReal) (d : EReal) (h0 : 0 ≤ d) (ht : d ≠ ⊤) : ∑ r, f r * d = (∑ r, f r) * d := by
  induction (Finset.univ : Finset (Fin n)) using Finset.induction_on with
  | empty => simp
  | insert a s ha ih => rw [Finset.sum_insert ha, Finset.sum_insert ha, ih, EReal.right_distrib_of_nonneg_of_ne_top h0 ht]

/-- The two doublings' constant. -/
theorem two_eq : (Ideal.ofBits .f32 0x40000000#32 : EReal) = ((2 : ℝ) : EReal) := by
  simp [Ideal.ofBits, Ideal.ieee, -EReal.coe_mul]; norm_num

/-- The kernel's weight at row `2 k + t` is the reference's at nibble `t` of code row `k`. -/
theorem weight_eq (V0 : Valuation Cert.ReferenceIdeal.τ Cert.ReferenceIdeal.sig (Elt Ideal)) (k : Fin 512) (t : Fin 2) (n : Fin 4096)
    (h : k.val * 2 + t.val < 1024) :
    weights (Cert.ReferenceIdeal.Value.res_main_v115 V0) (scales V0) (ix3 t k n)
      = weightAt (F := Ideal) (fun i => Cert.KernelIdeal.lit0 (Cert.KernelIdeal.S2x8x128.rowMajor i)) (codes V0) (scales V0) ⟨k.val * 2 + t.val, h⟩ n := by
  rw [weights_apply, table_apply, nibbles_apply, ← word_entry _ (subOf ⟨k.val * 2 + t.val, h⟩) t]
  have e1 : codeRow (⟨k.val / 32, by omega⟩ : Fin 16) (⟨k.val % 32, by omega⟩ : Fin 32) = rowOf ⟨k.val * 2 + t.val, h⟩ :=
    Fin.ext (by show k.val / 32 * 32 + k.val % 32 = (k.val * 2 + t.val) / 2; omega)
  have e2 : (⟨k.val / 32, by omega⟩ : Fin 16) = blkOf ⟨k.val * 2 + t.val, h⟩ :=
    Fin.ext (by show k.val / 32 = (k.val * 2 + t.val) / 64; omega)
  have e3 : (k.val * 2 + t.val) % 2 = t.val := by omega
  rw [e1, e2]
  unfold weightAt
  rw [e3]
  rfl

/-- The reference's rows are the kernel's. -/
theorem rows_eq (V0 : Valuation Cert.ReferenceIdeal.τ Cert.ReferenceIdeal.sig (Elt Ideal))
    (x : FVec Ideal Cert.ReferenceIdeal.S1536x1024 .bf16) (a : FVec Ideal Cert.ReferenceIdeal.S1024x16 .bf16) (b : FVec Ideal Cert.ReferenceIdeal.S16x4096 .bf16)
    (p : Fin 1536) (n : Fin 4096) :
    rows x (weights (Cert.ReferenceIdeal.Value.res_main_v115 V0) (scales V0)) a b (ix2 p n)
      = outAt x (fun i => Cert.KernelIdeal.lit0 (Cert.KernelIdeal.S2x8x128.rowMajor i)) (codes V0) (scales V0) a b p n := by
  rw [rows_apply]
  unfold outAt
  congr 1
  · exact Fin.sum_mul_add_congr (n := 2) fun k t h => by rw [weight_eq V0 k t n h]
  · rw [← sum_mul_two _ _ (by rw [two_eq]; exact_mod_cast (by norm_num : (0 : ℝ) ≤ 2)) (by rw [two_eq]; exact EReal.coe_ne_top 2)]
    refine Finset.sum_congr rfl fun r _ => ?_
    rw [mul_assoc, mul_comm (b _), ← mul_assoc]

/-- From memories that agree on the arguments, the reference's result is the kernel's. -/
theorem result_eq (m : (ℓ : Loc Cert.KernelIdeal.nD Cert.KernelIdeal.τ Cert.KernelIdeal.sig) → Buf (Elt Ideal) ℓ) (c : Dev Cert.KernelIdeal.nD)
    (V0 : Valuation Cert.ReferenceIdeal.τ Cert.ReferenceIdeal.sig (Elt Ideal))
    (h0 : V0 (Proc.devRef .tc Cert.ReferenceIdeal.main_arg0) = m ((c.tc : Thread Cert.KernelIdeal.nD Cert.KernelIdeal.τ).loc Cert.KernelIdeal.main_arg0))
    (h1 : V0 (Proc.devRef .tc Cert.ReferenceIdeal.main_arg1) = m ((c.tc : Thread Cert.KernelIdeal.nD Cert.KernelIdeal.τ).loc Cert.KernelIdeal.main_arg1))
    (h2 : V0 (Proc.devRef .tc Cert.ReferenceIdeal.main_arg2) = m ((c.tc : Thread Cert.KernelIdeal.nD Cert.KernelIdeal.τ).loc Cert.KernelIdeal.main_arg2))
    (h3 : V0 (Proc.devRef .tc Cert.ReferenceIdeal.main_arg3) = m ((c.tc : Thread Cert.KernelIdeal.nD Cert.KernelIdeal.τ).loc Cert.KernelIdeal.main_arg3))
    (h4 : V0 (Proc.devRef .tc Cert.ReferenceIdeal.main_arg4) = m ((c.tc : Thread Cert.KernelIdeal.nD Cert.KernelIdeal.τ).loc Cert.KernelIdeal.main_arg4)) :
    rows (Cert.ReferenceIdeal.Value.res_main_v119 V0) (weights (Cert.ReferenceIdeal.Value.res_main_v115 V0) (scales V0))
        (V0 (Proc.devRef .tc Cert.ReferenceIdeal.main_arg3)) (V0 (Proc.devRef .tc Cert.ReferenceIdeal.main_arg4))
      = outArray m c := by
  have ex : vx m c = Cert.ReferenceIdeal.Value.res_main_v119 V0 := by
    rw [vx_eq]
    unfold Cert.ReferenceIdeal.Value.res_main_v119
    rw [h0]
    rfl
  have eq : vc m c = codes V0 := (Cert.KernelIdeal.Gen.V_main_arg1 m c).trans h1.symm
  have es : vs m c = scales V0 := (Cert.KernelIdeal.Gen.V_main_arg2 m c).trans h2.symm
  have ea : va m c = V0 (Proc.devRef .tc Cert.ReferenceIdeal.main_arg3) := (Cert.KernelIdeal.Gen.V_main_arg3 m c).trans h3.symm
  have eb : vb m c = V0 (Proc.devRef .tc Cert.ReferenceIdeal.main_arg4) := (Cert.KernelIdeal.Gen.V_main_arg4 m c).trans h4.symm
  funext i
  have ei : i = ix2 (i 0) (i 1) := by
    funext a
    match a with
    | ⟨0, _⟩ => rfl
    | ⟨1, _⟩ => rfl
  unfold outArray
  rw [ex, vt_eq, eq, es, ea, eb]
  rw [ei]
  exact rows_eq V0 _ _ _ (i 0) (i 1)

end Cert.Agree
end
-- ==== Proof.lean ====
/-
The proof of `Cert.Claim`. The three programs run and keep their arguments; the kernel's ideal text is its own; and over the
extended reals the kernel's result is the reference's, index by index (`Proof/Agree.lean`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import Idealize.ShloMosaic.Adequacy
public import Idealize.ShloMosaic.Init

@[expose] public section

noncomputable section

namespace Cert.Proof

open Idealize.ShloMosaic Idealize.SL.Sem

/-- The kernel runs and keeps its arguments. -/
theorem quiescent_Kernel : Cert.quiescent_Kernel := fun m ρ _ => Cert.Kernel.Gen.frame m ρ

/-- The kernel at the ideal values runs and keeps its arguments. -/
theorem quiescent_KernelIdeal : Cert.quiescent_KernelIdeal := fun m ρ _ => Cert.KernelIdeal.Gen.frame m ρ

/-- The reference at the ideal values runs and keeps its arguments; it declares no semaphore. -/
theorem quiescent_ReferenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel's result and the reference's are equal over the extended reals. -/
theorem algebraic : Cert.algebraic_KernelIdeal_ReferenceIdeal := fun m g m' g' _ hagree =>
  ⟨fun c => shapeCast Cert.KernelIdeal.S12x128x4096 (Cert.Tiles.outArray m c) Cert.KernelIdeal.Gen.shapeCasts_S1536x4096_S12x128x4096,
    Cert.Tiles.run m g,
    (θ_run Cert.ReferenceIdeal.defs _ _).mono
      (fun r h c => ⟨(h c).1.trans (congrArg (fun X => shapeCast Cert.KernelIdeal.S12x128x4096 X Cert.KernelIdeal.Gen.shapeCasts_S1536x4096_S12x128x4096)
          (Cert.Agree.result_eq m c _ (hagree c).1 (hagree c).2.1 (hagree c).2.2.1 (hagree c).2.2.2.1 (hagree c).2.2.2.2)),
        (h c).2⟩)
      (Cert.ReferenceIdeal.Value.run (F := Ideal) m' g')⟩

/-- All the claims together. -/
theorem claim : Cert.Claim := ⟨Cert.Kernel.Gen.facts, Cert.KernelIdeal.Gen.facts, Cert.ReferenceIdeal.Gen.facts,
  quiescent_Kernel, quiescent_KernelIdeal, quiescent_ReferenceIdeal, trivial, algebraic⟩

end Cert.Proof

end
